-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1536, 768]⟩ ⟨2, ![3072, 1536]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨2, ![1536, 1]⟩ ⟨2, ![3072, 1]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S12x128 : Shape := ⟨2, ![12, 128]⟩
abbrev S_ : Shape := ⟨0, ![]⟩
abbrev S12x128x768 : Shape := ⟨3, ![12, 128, 768]⟩
abbrev S1536x1 : Shape := ⟨2, ![1536, 1]⟩

abbrev nBuf : Space → Nat
  | .hbm => 3
  | .vmem => 4
  | .smem => 0
  | _ => 0

abbrev bufTy : (tb : Table) → Fin (tcTables nBuf tb) → BufTy
  | .hbm, ⟨0, _⟩ => ⟨S1536x768, .f32⟩
  | .hbm, ⟨1, _⟩ => ⟨S12x128, .f32⟩
  | .hbm, ⟨2, _⟩ => ⟨S1536x1, .f32⟩
  | .local _ .vmem, ⟨0, _⟩ => ⟨S1536x768, .f32⟩
  | .local _ .vmem, ⟨1, _⟩ => ⟨S12x128, .f32⟩
  | .local _ .vmem, ⟨2, _⟩ => ⟨S12x128, .f32⟩
  | .local _ .vmem, ⟨3, _⟩ => ⟨S12x128, .f32⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev main_v2 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_11 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_10 : BitVec 32 := 2#32
  let v19 : BitVec 32 := Scalar.muli v2 c2_i32_10
  let v20 : BitVec 32 := Scalar.addi c0_i32_11 v19
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_12 : BitVec 32 := 1#32
  let v21 : BitVec 32 := Scalar.muli v6 c1_i32_12
  let v22 : BitVec 32 := Scalar.addi v20 v21
  v22.toNat
abbrev stage0_0 : Fin 1 → Memref sig .tc .vmem S1536x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S3072x1536 : Shape := ⟨2, ![3072, 1536]⟩
abbrev S_ : Shape := ⟨0, ![]⟩
abbrev S3072 : Shape := ⟨1, ![3072]⟩
abbrev S3072x1 : Shape := ⟨2, ![3072, 1]⟩

abbrev nBuf : Space → Nat
  | .hbm => 4
  | .vmem => 0
  | .smem => 0
  | _ => 0

abbrev bufTy : (tb : Table) → Fin (tcTables nBuf tb) → BufTy
  | .hbm, ⟨0, _⟩ => ⟨S3072x1536, .f32⟩
  | .hbm, ⟨1, _⟩ => ⟨S_, .f32⟩
  | .hbm, ⟨2, _⟩ => ⟨S3072, .f32⟩
  | .hbm, ⟨3, _⟩ => ⟨S3072x1, .f32⟩
  | _, _ => ⟨S3072x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Exchange.lean ====
/-
  The exchange between the two devices of a mesh row.

  Each device sums its own columns of every row, sends the row sums to the other device of its mesh row (its MATE), and
  adds what it receives to what it sent.  Three semaphores of a device take part:

  * line 0, the barrier semaphore: the mate raises it by one when it enters its kernel, and with that lends the device its
    receive buffer;
  * line 1, the send semaphore: the device's own transfer raises it once its send buffer has been read;
  * line 2, the receive semaphore: the mate's transfer raises it once the mate's row sums lie in the receive buffer.

  This module names those semaphores and the buffers' contents, states the plan of who pays which semaphore with what, and
  records what a device owes when it starts.  It holds for any float values `F`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Rounds
public import Idealize.ShloMosaic.Lib.Tactic
public import Idealize.ShloMosaic.Lib.Pipeline.Regions
public import Idealize.ShloMosaic.Lib.Pipeline.RegionTalk

@[expose] public section

noncomputable section

namespace Cert.RowSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The mate -/

/-- The other device of the mesh row of `c`: devices 0 and 1 form a row, and so do 2 and 3. -/
def mate (c : Dev nD) : Dev nD := ⟨2 * (c.val / 2) + 1 - c.val % 2, by have := c.isLt; simp only [nD] at *; omega⟩

/-- A device is its mate's mate. -/
theorem mate_mate (c : Dev nD) : mate (mate c) = c := by revert c; decide

/-- A device `d` has mate `c` exactly when `c` has mate `d`. -/
theorem mate_eq_iff (c d : Dev nD) : mate d = c ↔ d = mate c := by revert c d; decide

/-- Taking the mate, as a permutation of the devices. -/
def mates : Dev nD ≃ Dev nD := ⟨mate, mate, mate_mate, mate_mate⟩

/-- The device the kernel signals is the mate. -/
theorem signalled (c : Dev nD) : (⟨k0_dev1 c, k0_dev1_lt c⟩ : Dev nD) = mate c := Fin.ext (k0_dev1_eq c)

/-- The device the kernel sends to is the mate. -/
theorem addressed (c : Dev nD) : (⟨k0_dev2 c, k0_dev2_lt c⟩ : Dev nD) = mate c := Fin.ext (k0_dev2_eq c)

/-! ## Semaphores -/

/-- The barrier semaphore the kernel names. -/
abbrev barS : Sem sig := (SemArray.scalar (sig.barrier 0 rfl) : Sems sig S_).sem
/-- The semaphore the device's own transfer raises. -/
abbrev sendS : DmaSem sig := (cc0_scratch2 : DmaSems sig S_).sem
/-- The semaphore the mate's transfer raises. -/
abbrev recvS : DmaSem sig := (cc0_scratch3 : DmaSems sig S_).sem

/-- The three semaphores that take part, numbered. -/
abbrev line : Fin 3 → SemLoc sig := fun | 0 => .reg barS | 1 => .dma sendS | 2 => .dma recvS

/-- Semaphore number `k` of device `c`. -/
abbrev cell (k : Fin 3) (c : Dev nD) : GSem nD τ sig := ((c : Thread nD τ), line k)

/-- Distinct numbers name distinct semaphores. -/
theorem line_injective : Function.Injective line := by decide

/-- Two cells agree only if their numbers and their devices do. -/
theorem cell_eq {k l : Fin 3} {c d : Dev nD} (h : cell k c = cell l d) : k = l ∧ c = d :=
  ⟨line_injective (congrArg Prod.snd h), congrArg (fun g : GSem nD τ sig => g.1.1) h⟩

/-! ## The resources -/

/-- The ghost state: one copy for the staging of the blocks, one for the exchange. -/
abbrev UU : Type := UR sig nD τ × UR sig nD τ

local notation "𝕄" => MT nD τ sig Unit (Elt F) ℕ UU ℕ

/-- The copy that stages the blocks. -/
abbrev EP : Emb (UR sig nD τ) (MT nD τ sig Unit (Elt F) ℕ UU ℕ) := embL
/-- The copy of the exchange. -/
abbrev ER : Emb (UR sig nD τ) (MT nD τ sig Unit (Elt F) ℕ UU ℕ) := embR

/-- Buffer `b` of device `c`, whole, at contents `f`. -/
abbrev pt (c : Dev nD) (b : Ref sig .tc) (f : Buf (Elt F) ((c : Thread nD τ).loc b)) : sProp 𝕄 :=
  ((c : Thread nD τ).loc b) ↦{fullShare} f

variable (m : (ℓ : Loc nD τ sig) → Buf (Elt F) ℓ)

/-! ## Contents -/

/-- The block of the argument that device `c` starts from. -/
def block (c : Dev nD) : (main_arg0 : Ref sig .tc).ty.Contents (Elt F) := m ((c : Thread nD τ).loc main_arg0)

/-- The row sums device `c` computes from its own columns, and sends. -/
def sums (c : Dev nD) : Vec F S12x128 .f32 := k0_pay2 (block m c)

/-- What device `c` stores as its result: its own row sums plus those received from its mate. -/
def total (c : Dev nD) : Vec F S12x128 .f32 := k0_pay1 (sums m c) (sums m (mate c))

/-- The send buffer of the kernel. -/
abbrev sendM : Memref sig .tc .vmem S12x128 .f32 := Memref.whole cc0_scratch0
/-- The receive buffer of the kernel. -/
abbrev recvM : Memref sig .tc .vmem S12x128 .f32 := Memref.whole cc0_scratch1

/-- What one transfer of the row sums adds to a semaphore. -/
abbrev N : ℕ := (recvM : Memref sig .tc .vmem S12x128 .f32).view.dmaCredit
theorem N_pos : 0 < N := View.dmaCredit_pos _ (by decide)

/-! ## The plan -/

/-- What the one payment to semaphore `k` of device `c` hands over: to the barrier, the mate's receive buffer and the fact
    that the mate awaits its first transfer; to the send semaphore, the device's own send buffer back; to the receive
    semaphore, the device's receive buffer holding the mate's row sums. -/
def handed (k : Fin 3) (c : Dev nD) : sProp 𝕄 :=
  match k with
  | 0 => iprop((∃ f, pt (mate c) cc0_scratch1 f) ∗ reached ER (cell 2 (mate c)) 0)
  | 1 => pt c cc0_scratch0 (sums m c)
  | 2 => pt c cc0_scratch1 (sums m (mate c))

/-- By how much the one payment raises semaphore `k`: the barrier by one, the others by a transfer's credit. -/
def units (k : Fin 3) : ℕ := match k with | 0 => 1 | 1 => N | 2 => N

theorem units_pos (k : Fin 3) : 0 < units k := by
  fin_cases k
  · exact Nat.one_pos
  · exact N_pos
  · exact N_pos

/-- The number of a semaphore among the three, if it is one of them. -/
def number (s : SemLoc sig) : Option (Fin 3) :=
  if s = line 0 then some 0 else if s = line 1 then some 1 else if s = line 2 then some 2 else none

/-- The number of semaphore `k` is `k`. -/
theorem number_line : ∀ k : Fin 3, number (line k) = some k := by decide

/-- The plan: each of the three semaphores of every device is paid once, in round 0. -/
def plan : Rounds.Schedule (GSem nD τ sig) Unit 𝕄 where
  duties g r := if r = 0 ∧ g.1.2 = .tc ∧ (number g.2).isSome then {()} else ∅
  unitless _ := False
  amount g _ _ := (number g.2).elim 1 units
  payload g _ _ := (number g.2).elim iprop(emp) fun k => handed m k g.1.1
  amount_pos g _ _ _ := by
    cases number g.2 with
    | none => exact Nat.one_pos
    | some k => exact units_pos k

instance handed_storable (k : Fin 3) (c : Dev nD) : BI.Storable (upEmb : UEmb _ 𝕄) (handed m k c) := by
  unfold handed; fin_cases k <;> dsimp only <;> infer_instance

instance plan_storable (g : GSem nD τ sig) (r : ℕ) (d : Unit) : BI.Storable (upEmb : UEmb _ 𝕄) ((plan m).payload g r d) := by
  show BI.Storable upEmb ((number g.2).elim iprop(emp) fun k => handed m k g.1.1)
  cases number g.2 <;> dsimp only [Option.elim] <;> infer_instance

/-- Every one of the cells has its single duty in round 0. -/
theorem duty_mem (k : Fin 3) (c : Dev nD) : () ∈ (plan m).duties (cell k c) 0 := by
  dsimp only [plan]
  rw [if_pos ⟨rfl, rfl, by rw [number_line]; rfl⟩]; exact Finset.mem_singleton_self _

theorem duties_first (k : Fin 3) (c : Dev nD) : (plan m).duties (cell k c) 0 = {()} :=
  Finset.eq_singleton_iff_unique_mem.mpr ⟨duty_mem m k c, fun _ _ => rfl⟩

/-- After round 0 nothing is due. -/
theorem duties_after (g : GSem nD τ sig) : ∀ r, 0 + 1 ≤ r → (plan m).duties g r = ∅ := fun r hr => by
  dsimp only [plan]; exact if_neg fun h => by omega

theorem amount_of (k : Fin 3) (c : Dev nD) (u : Unit) : (plan m).amount (cell k c) 0 u = units k := by
  dsimp only [plan]; rw [number_line]; rfl

theorem expect_of (k : Fin 3) (c : Dev nD) : (plan m).expect (cell k c) 0 = units k := by
  unfold Schedule.expect Schedule.amountOf; rw [duties_first, Finset.sum_singleton, amount_of]

theorem payload_of (k : Fin 3) (c : Dev nD) (u : Unit) : (plan m).payload (cell k c) 0 u = handed m k c := by
  dsimp only [plan]; rw [number_line]; rfl

/-- What a wait that completes round 0 of a cell brings: the one payload. -/
theorem collected (k : Fin 3) (c : Dev nD) :
    bigSep ((plan m).duties (cell k c) 0 \ ∅) (fun u => (plan m).payload (cell k c) 0 u) = handed m k c := by
  rw [Finset.sdiff_empty, duties_first, bigSep_singleton, payload_of]

/-- A cell past its only round can be closed, and its counter reads zero. -/
theorem closes (κ : ℕ) (k : Fin 3) (c : Dev nD) :
    iprop(cellInv ER (plan m) κ (cell k c) ∗ atPos ER (cell k c) (0 + 1) ∅ 0) ⊢ (|={Set.univ}=> semVal (cell k c) 0 : sProp 𝕄) :=
  Rounds.cell_close ER (plan m) (Set.mem_univ κ) id (duties_after m (cell k c))

/-! ## Debts and their order -/

/-- What device `c` owes when it starts: a unit to its mate's barrier, a transfer's credit to its mate's receive semaphore. -/
def debt (c : Dev nD) : CellTallies nD τ sig Unit := tallyAt (cell 2 (mate c)) () N + tallyAt (cell 0 (mate c)) () 1

/-- The one index under which a TensorCore's cells are waited on. -/
def idx (g : GSem nD τ sig) : Finset Unit := if g.1.2 = .tc then {()} else ∅

/-- The order of waiting: staging first, then the barrier, then the receive semaphore. -/
def rank (g : GSem nD τ sig) (_ : Unit) : ℕ := if g.2 = line 0 then 1 else if g.2 = line 2 then 2 else 0

theorem idx_other (g : GSem nD τ sig) (h : g.1.2 ≠ .tc) : idx g = ∅ := if_neg h
theorem idx_mem (c : Dev nD) (s : SemLoc sig) : () ∈ idx ((c : Thread nD τ), s) := by
  unfold idx; rw [if_pos rfl]; exact Finset.mem_singleton_self _

/-- A tally at one cell is positive there only. -/
theorem tally_pos {g g' : GSem nD τ sig} {u u' : Unit} {n : ℕ} (h : 0 < tallyAt g' u' n g u) : g = g' := by
  rw [tallyAt_apply] at h
  split at h
  · next e => exact e.1
  · exact absurd h (Nat.lt_irrefl 0)

/-- A device owes to its mate's receive semaphore and to its mate's barrier, and to nothing else. -/
theorem debt_pos {c : Dev nD} {g : GSem nD τ sig} {u : Unit} (h : 0 < debt c g u) : g = cell 2 (mate c) ∨ g = cell 0 (mate c) := by
  unfold debt at h
  rw [Pi.add_apply, Finsupp.add_apply] at h
  rcases Nat.add_pos_iff_pos_or_pos.mp h with h | h
  · exact .inl (tally_pos h)
  · exact .inr (tally_pos h)

/-- Everything a device owes at the start ranks above the staging. -/
theorem debt_rank {c : Dev nD} {g : GSem nD τ sig} {u : Unit} (h : 0 < debt c g u) : u ∈ idx g ∧ 0 < rank g u := by
  rcases debt_pos h with rfl | rfl
  · exact ⟨idx_mem _ _, (by decide : 0 < (if line 2 = line 0 then 1 else if line 2 = line 2 then 2 else 0))⟩
  · exact ⟨idx_mem _ _, (by decide : 0 < (if line 0 = line 0 then 1 else if line 0 = line 2 then 2 else 0))⟩

/-- A device that still owes its mate a transfer may wait on its own barrier: the barrier ranks lower. -/
theorem may_wait (c : Dev nD) :
    (levAts idx rank : sProp 𝕄) ⊢ MayWait (c : Thread nD τ) (.reg barS) () (tallyAt (cell 2 (mate c)) () N) :=
  MayOwe.of_cut (L := idx) (lev := rank) 1
    (fun p hp => by rw [Finset.mem_singleton.mp hp]; exact idx_mem _ _)
    (fun g u hg => by rw [tally_pos hg]; exact idx_mem _ _)
    (fun p hp => by rw [Finset.mem_singleton.mp hp]; exact (by decide : (if line 0 = line 0 then 1 else if line 0 = line 2 then 2 else 0) ≤ 1))
    (fun g u hg => by rw [tally_pos hg]; exact (by decide : 1 < (if line 2 = line 0 then 1 else if line 2 = line 2 then 2 else 0)))

/-! ## What a device holds of the exchange -/

/-- The cells device `c` touches are kept by invariants, under the names `K`: its own three, and its mate's barrier and
    receive semaphore. -/
def kept (K : GSem nD τ sig → ℕ) (c : Dev nD) : sProp 𝕄 :=
  iprop(cellInv ER (plan m) (K (cell 0 c)) (cell 0 c) ∗ cellInv ER (plan m) (K (cell 1 c)) (cell 1 c)
    ∗ cellInv ER (plan m) (K (cell 2 c)) (cell 2 c)
    ∗ cellInv ER (plan m) (K (cell 0 (mate c))) (cell 0 (mate c)) ∗ cellInv ER (plan m) (K (cell 2 (mate c))) (cell 2 (mate c)))

instance kept_persistent (K : GSem nD τ sig → ℕ) (c : Dev nD) : BI.Persistent (kept m K c) := by unfold kept; infer_instance

/-- The three payments device `c` makes: its mate's barrier, its mate's receive semaphore, its own send semaphore. -/
def dues (c : Dev nD) : sProp 𝕄 :=
  iprop(dutyTok ER (cell 0 (mate c)) 0 () ∗ dutyTok ER (cell 2 (mate c)) 0 () ∗ dutyTok ER (cell 1 c) 0 ())

/-- Before the kernel starts: the barrier is in use already, the two transfer semaphores are still to be opened. -/
def sealed (K : GSem nD τ sig → ℕ) (c : Dev nD) : sProp 𝕄 :=
  iprop(kept m K c ∗ atPos ER (cell 0 c) 0 ∅ 0 ∗ (openTok ER (cell 1 c) ∗ openTok ER (cell 2 c))
    ∗ reached ER (cell 0 (mate c)) 0 ∗ dues c)

/-- When the kernel starts: all three cells are in use, at their first round. -/
def opened (K : GSem nD τ sig → ℕ) (c : Dev nD) : sProp 𝕄 :=
  iprop(kept m K c ∗ atPos ER (cell 0 c) 0 ∅ 0 ∗ (atPos ER (cell 1 c) 0 ∅ 0 ∗ atPos ER (cell 2 c) 0 ∅ 0)
    ∗ (reached ER (cell 0 (mate c)) 0 ∗ reached ER (cell 1 c) 0 ∗ reached ER (cell 2 c) 0) ∗ dues c)

/-- The credits device `c` waits with: the unit its mate owes its barrier, the transfer its mate owes its receive semaphore. -/
def credits (c : Dev nD) : sProp 𝕄 := iprop(cred (tallyAt (cell 0 c) () 1) ∗ cred (tallyAt (cell 2 c) () N))

/-- With the counters of its two transfer semaphores at zero, a device opens them. -/
theorem opens (K : GSem nD τ sig → ℕ) (c : Dev nD) :
    iprop(sealed m K c ∗ (semVal (cell 1 c) 0 ∗ semVal (cell 2 c) 0)) ⊢ (|={Set.univ}=> opened m K c : sProp 𝕄) := by
  unfold sealed opened kept
  iintro ⟨⟨⟨#I0, #I1, #I2, #J0, #J2⟩, P0, ⟨O1, O2⟩, #R0, D⟩, ⟨Z1, Z2⟩⟩
  imod (Rounds.cell_open ER (plan m) (g := cell 1 c) (Set.mem_univ (K (cell 1 c)))) $$ [O1 Z1] with ⟨P1, #R1⟩
  · isplitr; · iexact I1
    isplitl [O1] <;> iassumption
  imod (Rounds.cell_open ER (plan m) (g := cell 2 c) (Set.mem_univ (K (cell 2 c)))) $$ [O2 Z2] with ⟨P2, #R2⟩
  · isplitr; · iexact I2
    isplitl [O2] <;> iassumption
  imodintro
  isplitr
  · isplitr; · iexact I0
    isplitr; · iexact I1
    isplitr; · iexact I2
    isplitr; · iexact J0
    iexact J2
  isplitl [P0]; · iexact P0
  isplitl [P1 P2]
  · isplitl [P1] <;> iassumption
  isplitr
  · isplitr; · iexact R0
    isplitr; · iexact R1
    iexact R2
  iexact D

end Cert.RowSum

end
-- ==== Proof.Body.lean ====
/-
  The kernel's body on one device.

  From the exchange's resources, the staged block of the argument and the staging buffer of the result, the body runs to its
  end: the result's staging buffer holds the device's own row sums plus its mate's, the three counters are back at zero, and
  nothing is owed.
-/
module

public import proofs.«01_k».proof.Proof.Exchange

@[expose] public section

noncomputable section

namespace Cert.RowSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Whole-buffer accesses -/

/-- The offsets of every access of the body are zero. -/
theorem offsets_zero : (![0, 0] : Fin 2 → Nat) = fun _ => 0 := funext fun a => by fin_cases a <;> rfl

/-- The rectangle that is all of a buffer of row sums. -/
abbrev allRows : Rect S12x128 := Rect.unit (s := S12x128) ![0, 0] S12x128.size inb_S12x128_S12x128_0_0
/-- The rectangle that is all of the staged block. -/
abbrev allBlock : Rect S1536x768 := Rect.unit (s := S1536x768) ![0, 0] S1536x768.size inb_S1536x768_S1536x768_0_0

/-- Loading all of the staged block gives its contents. -/
theorem load_block (f : (cc0_stg0_0 : Ref sig .tc).ty.Contents (Elt F)) :
    (Memref.whole cc0_stg0_0).view.readAt (Elt F) allBlock.toLoadRect f = f :=
  Memref.readAt_unit_zero (Elt F) cc0_stg0_0 offsets_zero _ f

/-- Loading all of the send buffer gives its contents. -/
theorem load_send (f : (cc0_scratch0 : Ref sig .tc).ty.Contents (Elt F)) :
    sendM.view.readAt (Elt F) allRows.toLoadRect f = f :=
  Memref.readAt_unit_zero (Elt F) cc0_scratch0 offsets_zero _ f

/-- Loading all of the receive buffer gives its contents. -/
theorem load_recv (f : (cc0_scratch1 : Ref sig .tc).ty.Contents (Elt F)) :
    recvM.view.readAt (Elt F) allRows.toLoadRect f = f :=
  Memref.readAt_unit_zero (Elt F) cc0_scratch1 offsets_zero _ f

/-- Storing over all of the send buffer leaves what was stored. -/
theorem store_send (f w : (cc0_scratch0 : Ref sig .tc).ty.Contents (Elt F)) :
    (sendM.access allRows : View sig .tc _ _ _).write (Elt F) f w Finset.univ = w :=
  Memref.write_access_unit_zero_univ (Elt F) cc0_scratch0 offsets_zero _ f w

/-- Storing over all of the result's staging buffer leaves what was stored. -/
theorem store_result (f w : (cc0_stg1_0 : Ref sig .tc).ty.Contents (Elt F)) :
    ((Memref.whole cc0_stg1_0).access allRows : View sig .tc _ _ _).write (Elt F) f w Finset.univ = w :=
  Memref.write_access_unit_zero_univ (Elt F) cc0_stg1_0 offsets_zero _ f w

/-- A transfer from a send buffer leaves the receive buffer with the send buffer's contents. -/
theorem transferred (f : (cc0_scratch1 : Ref sig .tc).ty.Contents (Elt F)) (g : (cc0_scratch0 : Ref sig .tc).ty.Contents (Elt F)) :
    recvM.view.write (Elt F) f (sendM.view.read (Elt F) g) Finset.univ = g := by
  show (View.whole cc0_scratch1).write (Elt F) f ((View.whole cc0_scratch0).read (Elt F) g) Finset.univ = g
  rw [View.read_whole]; exact View.write_whole_univ _ _ _

/-- The body's variants: it has no loop to measure. -/
abbrev 𝒱₀ : Variants := Variants.none

/-! ## The transfer -/

/-- Device `c` sends its row sums to its mate: it hands over its send buffer and the mate's receive buffer, settles what it
    owes, and gets the credit with which it waits for its own send semaphore. -/
theorem sends (K : GSem nD τ sig → ℕ) (c n : Dev nD) (hn : n = mate c)
    {hsc : (recvM : Memref sig (Dev.tc n : Thread nD τ).2.kind .vmem S12x128 .f32).view.ref.isScScratch = false}
    {hsrc : sendM.view.WordExact} {hdst : recvM.view.WordExact}
    {hsem : DmaTarget.Typed .vmem (.dma recvS) (.remote (Dev.tc n : Thread nD τ) (recvM : Memref sig .tc .vmem S12x128 .f32) (.dma sendS) hsc)}
    {α : Type} {Q : α → sProp 𝕄} {k : PUnit → Prog (TpuEff nD τ sig (Elt F) Λ₀ .tc) α}
    (f : Buf (Elt F) ((mate c : Thread nD τ).loc cc0_scratch1)) (W : Waits sig Unit) :
    iprop(cellInv ER (plan m) (K (cell 1 c)) (cell 1 c) ∗ cellInv ER (plan m) (K (cell 2 (mate c))) (cell 2 (mate c))
        ∗ pt c cc0_scratch0 (sums m c) ∗ pt (mate c) cc0_scratch1 f
        ∗ owes (c : Thread nD τ) (tallyAt (cell 2 (mate c)) () N) W
        ∗ dutyTok ER (cell 1 c) 0 () ∗ reached ER (cell 1 c) 0
        ∗ dutyTok ER (cell 2 (mate c)) 0 () ∗ reached ER (cell 2 (mate c)) 0)
      ⊢ iprop(((cred (tallyAt (cell 1 c) () N) ∗ owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sendM (.remote (Dev.tc n : Thread nD τ) recvM (.dma sendS) hsc) (.dma recvS) hsrc hdst hsem) k) Q) := by
  subst hn
  have hs : sendM.view.set = Finset.univ := View.set_whole _
  have hr : recvM.view.set = Finset.univ := View.set_whole _
  have step := Rounds.wp_send_pointsTo (defs := defs₀ (F := F)) (k := k) (Q := Q) (hsc := hsc) (hsrc := hsrc) (hdst := hdst) (hsem := hsem)
    (Γ := PendingWaitsCtx.empty) 𝒱₀ ER (plan m) (c : Thread nD τ) none (c' := (mate c : Thread nD τ)) (src := sendM) (dst := recvM)
    (sS := .dma sendS) (sem := .dma recvS) (q := fullShare) (fs := sums m c) (fd := f)
    (κ₁ := K (cell 1 c)) (κ₂ := K (cell 2 (mate c))) (r₁ := 0) (r₂ := 0) (d₁ := ()) (d₂ := ())
    (duty_mem m 1 c) (duty_mem m 2 (mate c)) () () N rfl (amount_of m 1 c ()) (amount_of m 2 (mate c) ()) 0
    (by rw [zero_add]) (W := W)
    (by rw [hs]; exact Entails.of_eq (payload_of m 1 c ()).symm)
    (by
      rw [hr, transferred]
      refine Entails.of_eq (Eq.trans ?_ (payload_of m 2 (mate c) ()).symm)
      show _ = pt (mate c) cc0_scratch1 (sums m (mate (mate c)))
      rw [mate_mate]) (Es := Set.univ)
  rw [hs, hr] at step
  exact step

/-! ## The run -/

/-- What the body starts from: the exchange, its credits, the two scratch buffers at any contents, the staged block, the
    result's staging buffer at any contents, and the device's debt. -/
def before (K : GSem nD τ sig → ℕ) (c : Dev nD) (W : Waits sig Unit) : sProp 𝕄 :=
  iprop(opened m K c ∗ credits c ∗ levAts idx rank ∗ (∃ f, pt c cc0_scratch0 f) ∗ (∃ f, pt c cc0_scratch1 f)
    ∗ pt c cc0_stg0_0 (block m c) ∗ (∃ f, pt c cc0_stg1_0 f) ∗ owes (c : Thread nD τ) (debt c) W)

/-- What the body leaves: the counters at zero, the scratch buffers, the staged block, the result's staging buffer at the
    total, and no debt. -/
def afterwards (c : Dev nD) : sProp 𝕄 :=
  iprop((semVal (cell 0 c) 0 ∗ semVal (cell 1 c) 0 ∗ semVal (cell 2 c) 0) ∗ (∃ f, pt c cc0_scratch0 f) ∗ (∃ f, pt c cc0_scratch1 f)
    ∗ pt c cc0_stg0_0 (block m c) ∗ pt c cc0_stg1_0 (total m c) ∗ ∃ W, owes (c : Thread nD τ) (0 : CellTallies nD τ sig Unit) W)

set_option maxHeartbeats 1000000 in
/-- The body runs from `before` to `afterwards`. -/
theorem body_runs (K : GSem nD τ sig → ℕ) (c : Dev nD) (W : Waits sig Unit) (Q : PUnit → sProp 𝕄) :
    iprop(before m K c W ∗ (afterwards m c -∗ Q ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            cc0_scratch2 cc0_scratch3) Q := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId, signalled c]
  unfold before opened kept dues credits
  iintro ⟨⟨⟨⟨#I0, #I1, #I2, #J0, #J2⟩, P0, ⟨P1, P2⟩, ⟨#R0, #R1, #R2⟩, ⟨T0, T2, T1⟩⟩, ⟨C0, C2⟩, #Lev, ⟨%fs, Hs⟩, ⟨%fr, Hr⟩, Hx, ⟨%fo, Ho⟩, HO⟩, HQ⟩
  -- raise the mate's barrier, lending it the receive buffer
  iapply (Rounds.wp_signal 𝒱₀ ER (plan m) (c : Thread nD τ) none (dst := (mate c : Thread nD τ)) (sem := barS) (r := 0) (d := ()) (κ := K (cell 0 (mate c)))
      (duty_mem m 0 (mate c)) ((amount_of m 0 (mate c) ()).trans (by decide)) () (tallyAt (cell 2 (mate c)) () N) rfl) $$ [HO T0 Hr]
  · isplitr; · iexact J0
    isplitl [HO]; · iexact HO
    isplitl [T0]; · iexact T0
    isplitl [Hr]
    · iapply (Entails.of_eq (payload_of m 0 (mate c) ()).symm)
      unfold handed; dsimp only; rw [mate_mate]
      isplitl [Hr]; · iexists fr; iexact Hr
      iexact R2
    · iexact R0
  iintro HO
  -- sum the rows of the block into the send buffer
  iapply (wp_load 𝒱₀ (c : Thread nD τ) none Set.univ (m := Memref.whole cc0_stg0_0) (Finset.subset_univ _)) $$ Hx; iintro Hx
  rw [load_block]
  iapply (wp_load 𝒱₀ (c : Thread nD τ) none Set.univ (m := sendM) (Finset.subset_univ _)) $$ Hs; iintro Hs
  iapply (wp_store 𝒱₀ (c : Thread nD τ) none Set.univ (m := sendM) (r := allRows) (Mk := Finset.univ) (Finset.subset_univ _)) $$ Hs; iintro Hs
  rw [store_send]
  -- wait for the mate: its receive buffer comes with the unit
  iapply (Rounds.wp_wait_rest_token 𝒱₀ ER (plan m) (c : Thread nD τ) none (κ := K (cell 0 c))
      (wpE_semWait_eq 𝒱₀ (c : Thread nD τ) none Set.univ) (Set.mem_univ _) () (O := tallyAt (cell 2 (mate c)) () N) (W := W) (R := 0) (m := 0) (T := ∅)
      (by rw [show (((c : Thread nD τ), SemLoc.reg barS) : GSem nD τ sig) = cell 0 c from rfl, expect_of]; decide)) $$ [C0 HO P0]
  · isplitr; · iexact I0
    isplitl [C0]; · iexact C0
    isplitl [HO]; · iexact HO
    isplitr; · iapply (may_wait c); iexact Lev
    iexact P0
  iintro ⟨HO, P0, -, Hpay⟩
  ihave Hp := (Entails.of_eq (collected m 0 c)) $$ Hpay
  unfold handed; dsimp only
  icases Hp with ⟨⟨%fm, Hm⟩, #R2m⟩
  -- send the row sums
  iapply (sends m K c _ (addressed c) fm (insert (SemLoc.reg barS, ()) W)) $$ [Hs Hm HO T1 T2]
  · isplitr; · iexact I1
    isplitr; · iexact J2
    isplitl [Hs]; · iexact Hs
    isplitl [Hm]; · iexact Hm
    isplitl [HO]; · iexact HO
    isplitl [T1]; · iexact T1
    isplitr; · iexact R1
    isplitl [T2]; · iexact T2
    iexact R2m
  iintro ⟨C1, HO⟩
  -- wait until the send buffer has been read
  iapply (Rounds.wp_wait_rest_token 𝒱₀ ER (plan m) (c : Thread nD τ) none (κ := K (cell 1 c))
      (wpE_waitDma2_eq (src := recvM) (dst := sendM) 𝒱₀ (c : Thread nD τ) none Set.univ) (Set.mem_univ _) () (O := 0) (W := insert (SemLoc.reg barS, ()) W) (R := 0) (m := 0) (T := ∅)
      ((Nat.zero_add _).trans (expect_of m 1 c).symm)) $$ [C1 HO P1]
  · isplitr; · iexact I1
    isplitl [C1]; · iexact C1
    isplitl [HO]; · iexact HO
    isplitr; · rw [MayWait_zero]; iempintro
    iexact P1
  iintro ⟨HO, P1, -, Hpay⟩
  ihave Hs := (Entails.of_eq (collected m 1 c)) $$ Hpay
  -- wait until the mate's row sums have landed
  iapply (Rounds.wp_wait_rest_token 𝒱₀ ER (plan m) (c : Thread nD τ) none (κ := K (cell 2 c))
      (wpE_waitDma2_eq 𝒱₀ (c : Thread nD τ) none Set.univ) (Set.mem_univ _) () (O := 0)
      (W := insert (SemLoc.dma sendS, ()) (insert (SemLoc.reg barS, ()) W)) (R := 0) (m := 0) (T := ∅)
      ((Nat.zero_add _).trans (expect_of m 2 c).symm)) $$ [C2 HO P2]
  · isplitr; · iexact I2
    isplitl [C2]; · iexact C2
    isplitl [HO]; · iexact HO
    isplitr; · rw [MayWait_zero]; iempintro
    iexact P2
  iintro ⟨HO, P2, -, Hpay⟩
  ihave Hr := (Entails.of_eq (collected m 2 c)) $$ Hpay
  unfold handed; dsimp only
  -- add the two and store the total
  iapply (wp_load 𝒱₀ (c : Thread nD τ) none Set.univ (m := sendM) (Finset.subset_univ _)) $$ Hs; iintro Hs
  rw [load_send]
  iapply (wp_load 𝒱₀ (c : Thread nD τ) none Set.univ (m := recvM) (Finset.subset_univ _)) $$ Hr; iintro Hr
  rw [load_recv]
  iapply (wp_load 𝒱₀ (c : Thread nD τ) none Set.univ (m := Memref.whole cc0_stg1_0) (Finset.subset_univ _)) $$ Ho; iintro Ho
  iapply (wp_store 𝒱₀ (c : Thread nD τ) none Set.univ (m := Memref.whole cc0_stg1_0) (r := allRows) (Mk := Finset.univ) (Finset.subset_univ _)) $$ Ho; iintro Ho
  rw [store_result, wp_ret]
  -- the three cells are past their rounds: their counters come back at zero
  imod (closes m (K (cell 0 c)) 0 c) $$ [P0] with Z0
  · isplitr; · iexact I0
    iexact P0
  imod (closes m (K (cell 1 c)) 1 c) $$ [P1] with Z1
  · isplitr; · iexact I1
    iexact P1
  imod (closes m (K (cell 2 c)) 2 c) $$ [P2] with Z2
  · isplitr; · iexact I2
    iexact P2
  imodintro
  iapply HQ
  unfold afterwards
  isplitl [Z0 Z1 Z2]
  · isplitl [Z0]; · iexact Z0
    isplitl [Z1] <;> iassumption
  isplitl [Hs]; · iexists _; iexact Hs
  isplitl [Hr]; · iexists _; iexact Hr
  isplitl [Hx]; · iexact Hx
  isplitl [Ho]; · iexact Ho
  iexists _; iexact HO

end Cert.RowSum

end
-- ==== Proof.Region.lean ====
/-
  The kernel as a region of the program.

  What the region holds before and after its one grid point, the proof that the body takes the one to the other, what the
  arrays hold when the region ends, and the region's record: entered with the arrays as launched and the exchange still
  sealed, left with the result array at the total and the barrier's counter at zero.
-/
module

public import proofs.«01_k».proof.Proof.Body
public import proofs.«01_k».proof.Proof.Gen.KernelIdeal.Frame
public import Idealize.ShloMosaic.Lib.Pipeline.RegionTalk
public import Idealize.ShloMosaic.Lib.Pipeline.ValueKit.Geometry

@[expose] public section

noncomputable section

namespace Cert.RowSum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The proof data -/

/-- The two scratch buffers, at any contents. -/
def scratch (c : Dev nD) : sProp 𝕄 := iprop((∃ f, pt c cc0_scratch0 f) ∗ (∃ f, pt c cc0_scratch1 f))

/-- The exchange with all its cells in use, and what the device waits with. -/
def ready (c : Dev nD) : sProp 𝕄 := iprop((∃ K, opened m K c) ∗ credits c ∗ levAts idx rank)

/-- Before the body: the exchange, the scratch buffers, the generator's register. -/
def entering (c : Dev nD) : sProp 𝕄 := iprop(ready m c ∗ scratch c ∗ ∃ r, prngReg c r)

/-- After the body: the counters at zero, the scratch buffers, the generator's register. -/
def leaving (c : Dev nD) : sProp 𝕄 :=
  iprop(semVal (cell 0 c) 0 ∗ (semVal (cell 1 c) 0 ∗ semVal (cell 2 c) 0) ∗ scratch c ∗ ∃ r, prngReg c r)

/-- The region on device `c`: the argument's block stays, the result's block ends at the total, and the device's debt is
    settled by the one grid point. -/
def dat (c : Dev nD) : Dat τ (Elt F) Unit ℕ UU ℕ cfg0 c where
  A w := m ((cfg0.win w).arr.view.loc (c : Thread nD τ))
  after w _ := match w with
    | ⟨0, _⟩ => block m c
    | ⟨1, _⟩ => total m c
  Φ t := if t.val = 0 then entering m c else leaving c
  q _ := fullShare
  owed t := if t.val = 0 then debt c else 0

/-- Nothing is prefetched. -/
abbrev adm : (p : Fin 1) → (pcfgs (F := F) p).Adm := fun p => (cfgs p).toPCfg_adm

/-- The program's one region. -/
def pdats : (p : Fin 1) → (c : Dev nD) → Dat τ (Elt F) Unit ℕ UU ℕ (Pipeline.pin (pcfgs (F := F)) adm p) c
  | 0 => dat m

theorem owed_first (c : Dev nD) : (dat m c).owed t0_0.castSucc = debt c := by
  show (if (t0_0.castSucc : Fin (cfg0.N + 1)).val = 0 then debt c else 0) = debt c; exact if_pos rfl
theorem owed_last (c : Dev nD) : (dat m c).owed t0_0.succ = 0 := by
  show (if (t0_0.succ : Fin (cfg0.N + 1)).val = 0 then debt c else 0) = 0; exact if_neg (Nat.succ_ne_zero _)
theorem inv_first (c : Dev nD) : (dat m c).Φ t0_0.castSucc = entering m c := by
  show (if (t0_0.castSucc : Fin (cfg0.N + 1)).val = 0 then entering m c else leaving c) = entering m c; exact if_pos rfl
theorem inv_last (c : Dev nD) : (dat m c).Φ t0_0.succ = leaving c := by
  show (if (t0_0.succ : Fin (cfg0.N + 1)).val = 0 then entering m c else leaving c) = leaving c; exact if_neg (Nat.succ_ne_zero _)

/-! ## The body's obligation -/

/-- A whole memref is owned at `X` exactly when its buffer holds `X`. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ pt c b f) := by
  unfold owns; simp only [Memref.view_whole, View.read_whole, View.set_whole]

/-- The argument's window is all of its array, so the body finds the device's block staged. -/
theorem staged (c : Dev nD) (d) : (dat m c).before (0 : Fin 2) t0_0 d = block m c := by
  unfold Dat.before
  rw [if_pos (fetch0_0 t0_0)]
  funext j
  show block m c (((cfg0.win (0 : Fin 2)).rect t0_0).emb j) = block m c j
  congr 1; funext a; apply Fin.ext
  exact Pipeline.Window.rect_emb_val_of_index_zero (cfg0.win (0 : Fin 2)) t0_0 a (by fin_cases a <;> rfl) j

/-- Entering the body the device owes its debt. -/
theorem owes_first (c : Dev nD) :
    ((dat m c).owesAt () t0_0.castSucc : sProp 𝕄) ⊢ iprop(∃ W, owes (c : Thread nD τ) (debt c) W) := by
  unfold Dat.owesAt Pipeline.owesWithin; rw [owed_first]
  iintro ⟨%W, -, HO⟩; iexists W; iexact HO

/-- Leaving it the device owes nothing. -/
theorem owes_last (c : Dev nD) (W : Waits sig Unit) :
    (owes (c : Thread nD τ) (0 : CellTallies nD τ sig Unit) W : sProp 𝕄) ⊢ (dat m c).owesAt () t0_0.succ := by
  unfold Dat.owesAt Pipeline.owesWithin Dat.bound; rw [owed_last]
  iintro HO; iexists W; isplitr; · ipureintro; exact fun _ _ => Or.inl trivial
  iexact HO

/-- The body meets its obligation at the one grid point. -/
theorem body_meets (c : Dev nD) : BodyObligation (dat (F := F) m c) (defs₀ (F := F)) 𝒱₀ () Set.univ := fun t => by
  rw [fin_N0 t]
  rw [show (bigSep Finset.univ : (Fin cfg0.W → sProp 𝕄) → sProp 𝕄) = fun Φ => iprop(Φ (0 : Fin 2) ∗ Φ (1 : Fin 2)) from funext bigSep_W0]
  dsimp only
  simp only [owns_whole, inv_first, inv_last]
  show iprop(entering m c ∗ (dat m c).owesAt () t0_0.castSucc
      ∗ (∃ d, ∃ f : Buf (Elt F) ((c : Thread nD τ).loc cc0_stg0_0), ⌜f = (dat m c).before (0 : Fin 2) t0_0 d⌝ ∗ pt c cc0_stg0_0 f)
      ∗ (∃ d, ∃ f : Buf (Elt F) ((c : Thread nD τ).loc cc0_stg1_0), ⌜f = (dat m c).before (1 : Fin 2) t0_0 d⌝ ∗ pt c cc0_stg1_0 f))
    ⊢ wp frame (wpE (defs₀ (F := F)) 𝒱₀ c none) Set.univ
      (cc0_body (Memref.whole cc0_stg0_0) (Memref.isWhole_whole _) (Memref.whole cc0_stg1_0) (Memref.isWhole_whole _)
        (Memref.whole cc0_scratch0) (Memref.isWhole_whole _) (Memref.whole cc0_scratch1) (Memref.isWhole_whole _)
        cc0_scratch2 cc0_scratch3)
      (fun _ => iprop(leaving c ∗ (dat m c).owesAt () t0_0.succ
        ∗ (∃ f : Buf (Elt F) ((c : Thread nD τ).loc cc0_stg0_0), ⌜f = block m c⌝ ∗ pt c cc0_stg0_0 f)
        ∗ (∃ f : Buf (Elt F) ((c : Thread nD τ).loc cc0_stg1_0), ⌜f = total m c⌝ ∗ pt c cc0_stg1_0 f)))
  unfold entering ready scratch
  iintro ⟨⟨⟨⟨%K, HE⟩, HC, #HL⟩, ⟨Hs, Hr⟩, Hp⟩, HO, ⟨%d, %x, %hx, Hx⟩, ⟨%e, %y, -, Hy⟩⟩
  rw [staged] at hx; subst hx
  ihave HO := (owes_first m c) $$ HO
  icases HO with ⟨%W, HO⟩
  iapply (body_runs m K c W _)
  isplitr [Hp]
  · unfold before
    isplitl [HE]; · iexact HE
    isplitl [HC]; · iexact HC
    isplitr; · iexact HL
    isplitl [Hs]; · iexact Hs
    isplitl [Hr]; · iexact Hr
    isplitl [Hx]; · iexact Hx
    isplitl [Hy]; · iexists y; iexact Hy
    iexact HO
  unfold afterwards leaving scratch
  iintro ⟨⟨Z0, Z1, Z2⟩, Hs, Hr, Hx, Hy, ⟨%W', HO⟩⟩
  isplitl [Z0 Z1 Z2 Hs Hr Hp]
  · isplitl [Z0]; · iexact Z0
    isplitl [Z1 Z2]; · isplitl [Z1] <;> iassumption
    isplitl [Hs Hr]; · isplitl [Hs] <;> iassumption
    iexact Hp
  isplitl [HO]; · iapply (owes_last m c W'); iexact HO
  isplitl [Hx]
  · iexists _; isplitr; · ipureintro; rfl
    iexact Hx
  iexists _; isplitr; · ipureintro; rfl
  iexact Hy

/-! ## The arrays -/

/-- The argument array is never written. -/
theorem argument_kept (c : Dev nD) (n : ℕ) : (dat m c).arrAt (0 : Fin 2) n = block m c := (dat m c).arrAt_in 0 rfl n

/-- When the region ends, the result array holds the total: the window's one block is all of the array. -/
theorem result_total (c : Dev nD) : (dat m c).arrAt (1 : Fin 2) cfg0.N = total m c := by
  refine (dat m c).arrAt_eq_of_after_last (1 : Fin 2) t0_0 (by decide +kernel) (total m c) fun j => ?_
  rfl

/-- A device's buffers as launched. -/
def launched (c : Dev nD) : Valuation τ sig (Elt F) := fun b => m (c, b)
/-- After the region: the result array at the total. -/
def summed (c : Dev nD) : Valuation τ sig (Elt F) := Function.update (launched m c) (Proc.devRef .tc main_v1) (total m c)
/-- After the trailing reshape. -/
def finished (c : Dev nD) : Valuation τ sig (Elt F) := StableHlo.after hostOps1 (summed m c)

/-- The region's arrays. -/
abbrev arrays : Finset (DevRef τ sig) := Pipeline.arrRefs (τ := τ) (pcfgs (F := F) 0).spec
/-- Every other buffer that outlives the region. -/
abbrev others : Finset (DevRef τ sig) := Pipeline.ucRefs τ sig \ arrays (F := F)

theorem others_kept (c : Dev nD) : ∀ b ∈ others (F := F) \ ∅, summed m c b = launched m c b := fun b hb => by
  refine Function.update_of_ne ?_ _ _
  rintro rfl
  refine (Finset.mem_sdiff.mp (Finset.mem_sdiff.mp hb).1).2 ?_
  exact Finset.mem_map_of_mem _ (Finset.mem_image_of_mem _ (Finset.mem_univ (1 : Fin 2)))

/-- The region leaves the argument as launched. -/
theorem summed_argument (c : Dev nD) : summed m c (Proc.devRef .tc main_arg0) = block m c :=
  Function.update_of_ne (by decide : Proc.devRef .tc main_arg0 ≠ (Proc.devRef .tc main_v1 : DevRef τ sig)) _ _

/-- The region leaves the total in the result array. -/
theorem summed_result (c : Dev nD) : summed m c (Proc.devRef .tc main_v1) = total m c := Function.update_self ..

theorem arrays_first (c : Dev nD) (w : Fin 2) :
    (dat m c).arrAt w 0 = launched m c (Proc.devRef .tc (Pipeline.arrRef spec0 w)) := by
  fin_cases w <;> rfl

theorem arrays_last (c : Dev nD) (w : Fin 2) :
    (dat m c).arrAt w cfg0.N = summed m c (Proc.devRef .tc (Pipeline.arrRef spec0 w)) := by
  fin_cases w
  · refine (argument_kept m c _).trans ?_
    exact (summed_argument m c).symm
  · refine (result_total m c).trans ?_
    exact (summed_result m c).symm

/-! ## The region's record -/

/-- The two transfer semaphores are the kernel's own. -/
abbrev own (k : Fin 2) : SemLoc sig := line k.succ

theorem own_counters (c : Dev nD) : (Pipeline.ownSems0 own c : sProp 𝕄) = iprop(semVal (cell 1 c) 0 ∗ semVal (cell 2 c) 0) :=
  BI.bigSep_fin_two (fun k : Fin 2 => (semVal ((c : Thread nD τ), own k) 0 : sProp 𝕄))

/-- What the launch keeps for the region: the sealed exchange and the credits. -/
def keptFor (c : Dev nD) : sProp 𝕄 := iprop((∃ K, sealed m K c) ∗ credits c)
/-- What the region gives back: the barrier's counter at zero. -/
def givenBack (c : Dev nD) : sProp 𝕄 := semVal (cell 0 c) 0

/-- With its own counters at zero the region opens the exchange. -/
theorem region_opens (c : Dev nD) : iprop(keptFor m c ∗ Pipeline.ownSems0 own c ∗ levAts idx rank) ⊢ (|={Set.univ}=> ready m c : sProp 𝕄) := by
  rw [own_counters]; unfold keptFor ready
  iintro ⟨⟨⟨%K, HE⟩, HC⟩, HZ, #HL⟩
  imod (opens m K c) $$ [HE HZ] with HE
  · isplitl [HE] <;> iassumption
  imodintro
  isplitl [HE]; · iexists K; iexact HE
  isplitl [HC]; · iexact HC
  iexact HL

theorem region_enters (c : Dev nD) :
    iprop(Pipeline.scopedRest (Pipeline.pin (pcfgs (F := F)) adm 0).spec c ∗ (∃ r, prngReg c r)
        ∗ StableHlo.held (c.tc : Thread nD τ) ∅ (launched m c) ∗ ready m c) ⊢ (pdats m 0 c).Φ 0 := by
  rw [show (pdats m 0 c).Φ 0 = entering m c from inv_first m c, show (Pipeline.scopedRest (Pipeline.pin (pcfgs (F := F)) adm 0).spec c : sProp 𝕄) = scratch c from scopedRest0_eq c]
  unfold entering
  iintro ⟨Hs, Hp, -, HR⟩
  isplitl [HR]; · iexact HR
  isplitl [Hs] <;> iassumption

theorem region_leaves (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
        ∗ StableHlo.held (c.tc : Thread nD τ) ∅ (summed m c) ∗ Pipeline.ownSems0 own c ∗ givenBack c) := by
  rw [show (pdats m 0 c).Φ (Fin.last _) = leaving c from inv_last m c, own_counters, show (Pipeline.scopedRest (Pipeline.pin (pcfgs (F := F)) adm 0).spec c : sProp 𝕄) = scratch c from scopedRest0_eq c,
    show (StableHlo.held (c.tc : Thread nD τ) ∅ (summed m c) : sProp 𝕄) = BI.emp from BI.bigSep_empty]
  unfold leaving givenBack
  iintro ⟨Z0, Z, Hs, Hp⟩
  isplitl [Hs]; · iexact Hs
  isplitl [Hp]; · iexact Hp
  isplitr; · iempintro
  isplitl [Z] <;> iassumption

/-- The layout facts of the region. -/
theorem layout : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The staging semaphores rank below everything a device ever owes. -/
theorem staging_low : Pipeline.LevelCutOwed (pcfgs (F := F)) adm (pdats m) () idx rank 0 fun _ => 0 where
  hι c w s := idx_mem c _
  hιb c w s := by
    have h : ∀ (w : Fin 2) (s : Fin (spec0 w).nbuf), (if SemLoc.dma ((spec0 w).sem s) = line 0 then 1 else if SemLoc.dma ((spec0 w).sem s) = line 2 then 2 else 0) = 0 := by decide
    exact le_of_eq (h w s)
  hD c t g u h := by
    rw [show (pdats (F := F) m 0 c).owed t = if t.val = 0 then debt c else 0 from rfl] at h
    split at h
    · exact debt_rank h
    · exact absurd h (Nat.lt_irrefl 0)

set_option backward.isDefEq.respectTransparency.types false in
/-- The region's record. -/
def region : Pipeline.RegionSeg (pcfgs (F := F)) adm (pdats m) () defs₀ 𝒱₀ idx rank 0 :=
  Pipeline.RegionSeg.ofTalk (pcfgs (F := F)) adm (pdats m) () defs₀ 𝒱₀ idx rank 0 own (by decide : Pipeline.OwnSemFacts spec0 own)
    ∅ (others (F := F)) (Finset.empty_subset _) layout rfl (fun c => (body_meets m c).loose)
    (fun _ => 0) debt (fun c => (owed_first m c).trans (zero_add _).symm) (owed_last m) (fun _ => rfl)
    (fun c w => by unfold Dat.share; split <;> rfl)
    (launched m) (summed m) (others_kept m) (keptFor m) givenBack (ready m) givenBack
    (region_opens m) (region_enters m) (region_leaves m) (fun c => by iintro H; imodintro; iexact H)
    (fun _ => 0) (staging_low m) (fun _ => iprop(emp)) (arrays_first m) (arrays_last m)

/-- What a device holds beside its buffers once the region is over: the barrier's counter at zero, and no debt. -/
def quiet (c : Dev nD) : sProp 𝕄 := iprop(semVal (cell 0 c) 0 ∗ ∃ W, owes (c : Thread nD τ) (0 : CellTallies nD τ sig Unit) W)

/-- What a device holds beside its buffers before the region: the exchange, the generator's register, its debt. -/
def poised (c : Dev nD) : sProp 𝕄 := iprop(keptFor m c ∗ (∃ r, prngReg c r) ∗ ∃ W, owes (c : Thread nD τ) (debt c) W)

/-- The buffers a device holds are the region's arrays and the others. -/
theorem held_split (c : Dev nD) (V : Valuation τ sig (Elt F)) :
    (StableHlo.held (c : Thread nD τ) (Pipeline.ucRefs τ sig) V : sProp 𝕄)
      = iprop(StableHlo.held (c : Thread nD τ) (arrays (F := F)) V ∗ StableHlo.held (c : Thread nD τ) (others (F := F)) V) :=
  StableHlo.held_sub_split (c : Thread nD τ) (Pipeline.arrRefs_sub_ucRefs spec0 winFacts0.arr_unscoped) V

/-- The region can be entered from the launched buffers. -/
theorem region_pre (c : Dev nD) :
    iprop(StableHlo.held (c : Thread nD τ) (Pipeline.ucRefs τ sig) (launched m c) ∗ poised m c) ⊢ (region m).pre c := by
  show _ ⊢ iprop(StableHlo.held (c.tc : Thread nD τ) (arrays (F := F)) (launched m c) ∗ (∃ r, prngReg c r)
    ∗ (StableHlo.held (c.tc : Thread nD τ) (others (F := F)) (launched m c) ∗ emp) ∗ keptFor m c ∗ ∃ W, owes (c : Thread nD τ) (0 + debt c) W)
  rw [held_split, zero_add]; unfold poised
  iintro ⟨⟨Ha, Ho⟩, HE, Hp, HO⟩
  isplitl [Ha]; · iexact Ha
  isplitl [Hp]; · iexact Hp
  isplitl [Ho]
  · isplitl [Ho]; · iexact Ho
    iempintro
  isplitl [HE] <;> iassumption

/-- It leaves the buffers with the result array at the total. -/
theorem region_post (c : Dev nD) :
    (region m).post c ⊢ iprop(StableHlo.held (c : Thread nD τ) (Pipeline.ucRefs τ sig) (summed m c) ∗ quiet c) := by
  show iprop(StableHlo.held (c.tc : Thread nD τ) (arrays (F := F)) (summed m c) ∗ (∃ r, prngReg c r)
    ∗ (StableHlo.held (c.tc : Thread nD τ) (others (F := F)) (summed m c) ∗ emp) ∗ givenBack c
    ∗ ∃ W, owes (c : Thread nD τ) (0 : CellTallies nD τ sig Unit) W) ⊢ _
  rw [held_split]; unfold quiet givenBack
  iintro ⟨Ha, -, ⟨Ho, -⟩, Z, HO⟩
  isplitl [Ha Ho]
  · isplitl [Ha] <;> iassumption
  isplitl [Z] <;> iassumption

/-- The trailing reshape, from the buffers the region leaves. -/
def host : Pipeline.HostSeg (Name := ℕ) (U := UU) (pcfgs (F := F)) defs₀ 𝒱₀ idx rank :=
  Pipeline.HostSeg.ofOps _ _ _ _ _ (Pipeline.ucRefs τ sig) hostOps1
    (fun op h => Pipeline.sub_ucRefs op ((List.forall_iff_forall_mem.mp hostOps1_sub) op h))
    (List.forall_iff_forall_mem.mp hostOps1_fresh) (summed m) quiet

/-- The program: the region, then the reshape. -/
def segs : List (Pipeline.Seg (pcfgs (F := F)) adm (pdats m) () defs₀ 𝒱₀ idx rank) := [.region (region m), .host (host m)]

theorem main_eq (c : Dev nD) : main (F := F) c = Pipeline.Seg.run (segs m) :=
  main_segs adm (pdats m) () 𝒱₀ idx rank (host m) (region m) rfl c

end Cert.RowSum

end
-- ==== Proof.Launch.lean ====
/-
  The launch of the exchange.

  From every device's barrier at zero and the launch's ghost state, the cells of all devices are put under invariants and
  each device is dealt what it starts from: its barrier's position, the right to open its two transfer semaphores, the three
  payments it makes, and the credits with which it waits.
-/
module

public import proofs.«01_k».proof.Proof.Region

@[expose] public section

noncomputable section

namespace Cert.RowSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells of all devices -/

/-- The barrier of a device, as an embedding. -/
def barrierOf : Dev nD ↪ GSem nD τ sig := ⟨cell 0, fun _ _ h => (cell_eq h).2⟩
/-- The two transfer semaphores of a device, as an embedding. -/
def transferOf : Dev nD × Fin 2 ↪ GSem nD τ sig :=
  ⟨fun p => cell p.2.succ p.1, fun _ _ h => Prod.ext (cell_eq h).2 (Fin.succ_injective _ (cell_eq h).1)⟩
/-- The one payment to each semaphore of a device, as an embedding. -/
def paymentOf : Dev nD × Fin 3 ↪ GSem nD τ sig × ℕ × Unit :=
  ⟨fun p => (cell p.2 p.1, 0, ()), fun _ _ h => Prod.ext (cell_eq (congrArg Prod.fst h)).2 (cell_eq (congrArg Prod.fst h)).1⟩

/-- All barriers, all transfer semaphores, all payments. -/
abbrev barriers : Finset (GSem nD τ sig) := Finset.univ.map barrierOf
abbrev transfers : Finset (GSem nD τ sig) := Finset.univ.map transferOf
abbrev payments : Finset (GSem nD τ sig × ℕ × Unit) := Finset.univ.map paymentOf

/-- A barrier is no transfer semaphore. -/
theorem cells_disjoint : Disjoint barriers transfers := by
  rw [Finset.disjoint_left]
  intro g hb ht
  obtain ⟨c, -, rfl⟩ := Finset.mem_map.mp hb
  obtain ⟨⟨d, k⟩, -, h⟩ := Finset.mem_map.mp ht
  exact Fin.succ_ne_zero k (cell_eq h).1

/-- Every cell of the exchange is among them. -/
theorem cell_mem (k : Fin 3) (c : Dev nD) : cell k c ∈ barriers ∪ transfers := by
  refine Fin.cases ?_ (fun j => ?_) k
  · exact Finset.mem_union_left _ (Finset.mem_map_of_mem barrierOf (Finset.mem_univ c))
  · exact Finset.mem_union_right _ (Finset.mem_map_of_mem transferOf (Finset.mem_univ (c, j)))

/-- The ghost state at launch: the staging's and the exchange's. -/
def u₀ : UU :=
  (initOf (Pipeline.cells (Pipeline.pin (pcfgs (F := F)) adm) cellOf_inj) (Pipeline.launchToks (Pipeline.pin (pcfgs (F := F)) adm) cellOf_inj),
    launchOf barriers transfers payments)

/-- The exchange's ghost state, whole. -/
abbrev whole : sProp 𝕄 := BI.own (ER (launchOf barriers transfers payments))

/-- It is handed to the launch by device 0; the others bring nothing. -/
def brought (c : Dev nD) : sProp 𝕄 := if c = 0 then whole else iprop(emp)

theorem brought_all : (bigSep Finset.univ brought : sProp 𝕄) = whole := by
  rw [bigSep_univ_at _ (0 : Dev nD), bigSep_congr (s := Finset.univ.erase (0 : Dev nD)) (Ψ := fun _ => (BI.emp : sProp 𝕄))
      fun c hc => by unfold brought; rw [if_neg (Finset.ne_of_mem_erase hc)]; rfl,
    BI.bigSep_emp_const]
  exact BI.equiv_iff.mp sep_emp

/-! ## What every device may consult, and what is its own -/

/-- All cells are under invariants, and every barrier is in its first round. -/
def posted (κ : GSem nD τ sig → ℕ) : sProp 𝕄 :=
  iprop((bigSep (barriers ∪ transfers) fun g => cellInv ER (plan m) (κ g) g) ∗ bigSep barriers fun g => reached ER g 0)

instance posted_persistent (κ : GSem nD τ sig → ℕ) : BI.Persistent (posted m κ) := by unfold posted; infer_instance

/-- One cell's invariant among all. -/
theorem posted_cell (κ : GSem nD τ sig → ℕ) (k : Fin 3) (c : Dev nD) :
    (bigSep (barriers ∪ transfers) fun g => (cellInv ER (plan m) (κ g) g : sProp 𝕄)) ⊢ cellInv ER (plan m) (κ (cell k c)) (cell k c) :=
  bigSep_elim (cell_mem k c)

/-- One barrier's first round among all. -/
theorem posted_barrier (c : Dev nD) : (bigSep barriers fun g => (reached ER g 0 : sProp 𝕄)) ⊢ reached ER (cell 0 c) 0 :=
  bigSep_elim (Finset.mem_map_of_mem barrierOf (Finset.mem_univ c))

/-- What is dealt to device `c` alone. -/
def dealt (c : Dev nD) : sProp 𝕄 :=
  iprop(atPos ER (cell 0 c) 0 ∅ 0 ∗ (openTok ER (cell 1 c) ∗ openTok ER (cell 2 c)) ∗ dues c)

/-- With what is posted, that is the sealed exchange. -/
theorem seals (κ : GSem nD τ sig → ℕ) (c : Dev nD) : iprop(posted m κ ∗ dealt c) ⊢ sealed m κ c := by
  unfold posted dealt sealed kept
  iintro ⟨⟨#I, #R⟩, P, O, D⟩
  isplitr
  · isplitr; · iapply (posted_cell m κ 0 c); iexact I
    isplitr; · iapply (posted_cell m κ 1 c); iexact I
    isplitr; · iapply (posted_cell m κ 2 c); iexact I
    isplitr; · iapply (posted_cell m κ 0 (mate c)); iexact I
    iapply (posted_cell m κ 2 (mate c)); iexact I
  isplitl [P]; · iexact P
  isplitl [O]; · iexact O
  isplitr; · iapply (posted_barrier (F := F) (mate c)); iexact R
  iexact D

/-- The positions of all barriers, device by device. -/
theorem positions : (bigSep barriers fun g => (atPos ER g 0 ∅ 0 : sProp 𝕄)) = bigSep Finset.univ fun c : Dev nD => atPos ER (cell 0 c) 0 ∅ 0 :=
  bigSep_map barrierOf

/-- The rights to open, device by device. -/
theorem openings : (bigSep transfers fun g => (openTok ER g : sProp 𝕄))
    = bigSep Finset.univ fun c : Dev nD => iprop(openTok ER (cell 1 c) ∗ openTok ER (cell 2 c)) := by
  rw [bigSep_map, bigSep_univ_prod]
  exact bigSep_congr fun c _ => BI.bigSep_fin_two fun k : Fin 2 => (openTok ER (cell k.succ c) : sProp 𝕄)

/-- The payments, dealt to the devices that make them: those to a device's barrier and receive semaphore go to its mate. -/
theorem payments_dealt : (bigSep payments fun x => (dutyTok ER x.1 x.2.1 x.2.2 : sProp 𝕄)) = bigSep Finset.univ fun c : Dev nD => dues c := by
  have three (Φ : Fin 3 → sProp 𝕄) : bigSep Finset.univ Φ = iprop(Φ 0 ∗ Φ 2 ∗ Φ 1) :=
    bigSep_univ_eq_bigSepL [0, 2, 1] (by decide) (by decide) Φ
  unfold dues
  rw [bigSep_map, bigSep_univ_prod, bigSep_congr fun c _ => three _, bigSep_sep', bigSep_sep', bigSep_sep', bigSep_sep',
    bigSep_univ_equiv mates fun c : Dev nD => (dutyTok ER (paymentOf (c, 0)).1 (paymentOf (c, 0)).2.1 (paymentOf (c, 0)).2.2 : sProp 𝕄),
    bigSep_univ_equiv mates fun c : Dev nD => (dutyTok ER (paymentOf (c, 2)).1 (paymentOf (c, 2)).2.1 (paymentOf (c, 2)).2.2 : sProp 𝕄)]
  rfl

/-! ## The credits -/

/-- To a device's barrier its mate owes one unit, and nobody else owes anything. -/
theorem owed_barrier (c d : Dev nD) : debt d (cell 0 c) () = if d = mate c then 1 else 0 := by
  unfold debt
  rw [Pi.add_apply, Finsupp.add_apply, tallyAt_ne_cell fun h => absurd (cell_eq h).1 (by decide), Finsupp.zero_apply, Nat.zero_add, tallyAt_apply]
  exact if_congr ⟨fun h => (mate_eq_iff c d).mp (cell_eq h.1).2.symm, fun h => ⟨by rw [(mate_eq_iff c d).mpr h], rfl⟩⟩ rfl rfl

/-- To a device's receive semaphore its mate owes one transfer, and nobody else owes anything. -/
theorem owed_transfer (c d : Dev nD) : debt d (cell 2 c) () = if d = mate c then N else 0 := by
  unfold debt
  rw [Pi.add_apply, Finsupp.add_apply, tallyAt_ne_cell (g := cell 0 (mate d)) (g' := cell 2 c) fun h => absurd (cell_eq h).1 (by decide), Finsupp.zero_apply, Nat.add_zero, tallyAt_apply]
  exact if_congr ⟨fun h => (mate_eq_iff c d).mp (cell_eq h.1).2.symm, fun h => ⟨by rw [(mate_eq_iff c d).mpr h], rfl⟩⟩ rfl rfl

/-- If one device alone owes `n` to a cell, the launch credits the cell with `n`. -/
theorem credit_of (g : GSem nD τ sig) (d₀ : Dev nD) (n : ℕ) (h : ∀ d, debt d g () = if d = d₀ then n else 0) :
    tallyOn g (launchCredit (Pipeline.owing debt) 0 g) = (tallyAt g () n : CellTallies nD τ sig Unit) := by
  unfold tallyAt
  refine congrArg _ (Finsupp.ext fun u => ?_)
  cases u
  rw [Pipeline.launchCredit_owing, Finsupp.single_eq_same, Finset.sum_congr rfl fun d _ => h d,
    Finset.sum_ite_eq' Finset.univ d₀ fun _ => n, if_pos (Finset.mem_univ _)]

/-- The launch's credit for device `c` holds the two it waits with. -/
theorem credited (c : Dev nD) : (Pipeline.launchCred debt c : sProp 𝕄) ⊢ credits c := by
  unfold Pipeline.launchCred credits
  rw [bigSep_univ_at _ (line 0), credit_of (cell 0 c) (mate c) 1 (owed_barrier c)]
  refine sep_mono_right ?_
  rw [← credit_of (cell 2 c) (mate c) N (owed_transfer c)]
  exact bigSep_elim (Finset.mem_erase.mpr ⟨by decide, Finset.mem_univ (line 2)⟩)

/-! ## The deal -/

/-- The barrier is the one semaphore that outlives the region. -/
theorem lasting (c : Dev nD) : (unscopedSems0 c : sProp 𝕄) = semVal (cell 0 c) 0 := by
  unfold unscopedSems0
  rw [show (Finset.univ.filter fun s : SemLoc sig => ¬ s.isScoped .tc) = {line 0} from by decide, bigSep_singleton]

/-- What a device starts from. -/
def start (c : Dev nD) : sProp 𝕄 :=
  iprop(StableHlo.held (c : Thread nD τ) (Pipeline.ucRefs τ sig) (launched m c) ∗ poised m c)

/-- What of it the deal does not touch. -/
def aside (c : Dev nD) : sProp 𝕄 :=
  iprop(StableHlo.held (c : Thread nD τ) (Pipeline.ucRefs τ sig) (launched m c) ∗ credits c ∗ (∃ r, prngReg c r)
    ∗ owes (c : Thread nD τ) (debt c) ∅)

/-- A device's holdings at launch, sorted. -/
theorem sorted (c : Dev nD) :
    iprop(unscopedBufs c (fun b => m ((c : Thread nD τ).loc b)) ∗ unscopedSems0 c ∗ owes (c : Thread nD τ) (debt c) ∅
        ∗ Pipeline.launchCred debt c ∗ prngReg c (ρ c) ∗ brought c)
      ⊢ (iprop(aside m c ∗ semVal (cell 0 c) 0 ∗ brought c) : sProp 𝕄) := by
  rw [show (unscopedBufs c (fun b => m ((c : Thread nD τ).loc b)) : sProp 𝕄) = StableHlo.held (c : Thread nD τ) (Pipeline.ucRefs τ sig) (launched m c)
    from Pipeline.unscopedBufs_held c (launched m c), lasting]
  unfold aside
  iintro ⟨Hb, Hz, HO, Hc, Hp, HG⟩
  isplitr [Hz HG]
  · isplitl [Hb]; · iexact Hb
    isplitl [Hc]; · iapply (credited (F := F) c); iexact Hc
    isplitl [Hp]; · iexists (ρ c); iexact Hp
    iexact HO
  isplitl [Hz] <;> iassumption

/-- What is posted, what is dealt and what was put aside make a device's start. -/
theorem starts (κ : GSem nD τ sig → ℕ) (c : Dev nD) : iprop(posted m κ ∗ (dealt c ∗ aside m c)) ⊢ start m c := by
  unfold aside start poised keptFor
  iintro ⟨#HP, HD, Hb, Hc, Hp, HO⟩
  isplitl [Hb]; · iexact Hb
  isplitl [HD Hc]
  · isplitl [HD]
    · iexists κ; iapply (seals m κ c)
      isplitr; · iexact HP
      iexact HD
    iexact Hc
  isplitl [Hp]; · iexact Hp
  iexists ∅; iexact HO

/-- All that is dealt and all that was put aside, device by device. -/
theorem joined :
    iprop(((bigSep Finset.univ fun c : Dev nD => atPos ER (cell 0 c) 0 ∅ 0)
          ∗ (bigSep Finset.univ fun c : Dev nD => iprop(openTok ER (cell 1 c) ∗ openTok ER (cell 2 c)))
          ∗ bigSep Finset.univ fun c : Dev nD => dues c)
        ∗ bigSep Finset.univ (aside m))
      ⊢ (bigSep Finset.univ fun c : Dev nD => iprop(dealt c ∗ aside m c) : sProp 𝕄) :=
  Entails.of_eq (by
    rw [bigSep_sep' (Φ := fun c : Dev nD => (dealt c : sProp 𝕄))]
    unfold dealt
    rw [bigSep_sep' (Φ := fun c : Dev nD => (atPos ER (cell 0 c) 0 ∅ 0 : sProp 𝕄)), bigSep_sep' (Ψ := fun c : Dev nD => (dues c : sProp 𝕄))])

/-- The launch: from the devices' holdings, every device's start. -/
theorem launches :
    iprop((bigSep Finset.univ fun c : Dev nD => iprop(unscopedBufs c (fun b => m ((c : Thread nD τ).loc b)) ∗ unscopedSems0 c
          ∗ owes (c : Thread nD τ) (debt c) ∅ ∗ Pipeline.launchCred debt c ∗ prngReg c (ρ c) ∗ brought c)) ∗ levAts idx rank)
      ⊢ (|={Set.univ}=> bigSep Finset.univ (start m) : sProp 𝕄) := by
  refine (sep_mono_left (bigSep_mono fun c _ => sorted m ρ c)).trans ?_
  rw [bigSep_sep', bigSep_sep', brought_all]
  have hz : (bigSep Finset.univ fun c : Dev nD => (semVal (cell 0 c) 0 : sProp 𝕄)) = bigSep barriers fun g => semVal g 0 :=
    (bigSep_map (s := Finset.univ) barrierOf (Φ := fun g => (semVal g 0 : sProp 𝕄))).symm
  rw [hz]
  iintro ⟨⟨HA, HZ, HW⟩, -⟩
  imod (Rounds.fund_launch ER (plan m) cells_disjoint (fun _ _ h => h) payments) $$ [HZ HW] with ⟨%κ, -, #HI, #HR, HP, HO, HD⟩
  · isplitl [HZ] <;> iassumption
  imodintro
  iapply (bigSep_with_persistent (R := posted m κ) (Φ := fun c => iprop(dealt c ∗ aside m c)) fun c _ => starts m κ c)
  isplitr
  · unfold posted
    isplitr; · iexact HI
    iexact HR
  ihave HP := (Entails.of_eq (positions (F := F))) $$ HP
  ihave HO := (Entails.of_eq (openings (F := F))) $$ HO
  ihave HD := (Entails.of_eq (payments_dealt (F := F))) $$ HD
  iapply (joined m)
  isplitr [HA]
  · isplitl [HP]; · iexact HP
    isplitl [HO] <;> iassumption
  · iexact HA

end Cert.RowSum

end
-- ==== Proof.Run.lean ====
/-
  The run of the whole program, over any float values.

  From any memory with all counters at zero every execution ends, with the argument as it was, the result at the reshaped
  total, and every counter back at zero.
-/
module

public import proofs.«01_k».proof.Proof.Launch

@[expose] public section

noncomputable section

namespace Cert.RowSum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- What device `c` returns: the total as one column. -/
def result (c : Dev nD) : (main_v2 : Ref sig .tc).ty.Contents (Elt F) := shapeCast S1536x1 (total m c) shapeCasts_S12x128_S1536x1

/-- The reshape leaves the argument. -/
theorem finished_argument (c : Dev nD) : finished m c (Proc.devRef .tc main_arg0) = block m c := by
  unfold finished
  after_results
  exact summed_argument m c

/-- The reshape fills the result. -/
theorem finished_result (c : Dev nD) : finished m c (Proc.devRef .tc main_v2) = result m c := by
  unfold finished
  after_results
  rw [summed_result]
  rfl

/-- The three buffers that outlive the region. -/
theorem held_three (c : Dev nD) (V : Valuation τ sig (Elt F)) :
    (StableHlo.held (c : Thread nD τ) (Pipeline.ucRefs τ sig) V : sProp 𝕄)
      = iprop(pt c main_arg0 (V main_arg0) ∗ pt c main_v1 (V main_v1) ∗ pt c main_v2 (V main_v2)) := by
  unfold StableHlo.held
  rw [bigSep_eq_bigSepL_of_eq [Proc.devRef .tc main_arg0, Proc.devRef .tc main_v1, Proc.devRef .tc main_v2] (by decide) (by decide)]
  rfl

/-- What a device holds when the program is over. -/
def over (c : Dev nD) : sProp 𝕄 :=
  iprop(StableHlo.held (c : Thread nD τ) (Pipeline.ucRefs τ sig) (finished m c) ∗ semVal (cell 0 c) 0)

/-- The barrier is the only semaphore that is not the region's. -/
theorem lasting_eq : ∀ s : SemLoc sig, s.isScoped .tc = false → s = line 0 := by decide

set_option backward.isDefEq.respectTransparency.types false in
/-- Every execution ends with the argument unchanged, the result at `result`, and every counter at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_v2) = result m c) ∧ r.2.sem = fun _ => 0) :=
  Pipeline.θ_run_regions_kit_sems (pcfgs (F := F)) adm (pdats m) () cellOf_inj EP defs₀ 𝒱₀ idx rank m ρ main (segs m)
    (fun c Q => by rw [main_eq m c])
    (by simp only [segs, Pipeline.Seg.pipes_host, Pipeline.Seg.pipes_region, Pipeline.Seg.pipes_nil]; decide)
    (O₀ := debt) (hL := idx_other) (G := brought) (u₀ := u₀ (F := F))
    (hu₀ := by
      unfold u₀
      iintro Hu
      ihave H := (ownU_pair _ _) $$ Hu
      icases H with ⟨HP, HX⟩
      imodintro
      isplitl [HP]; · iexact HP
      rw [brought_all]; iexact HX)
    (T₀ := start m) (Tₙ := over m)
    (hch := by
      refine ⟨fun c => region_pre m c, fun c => region_post m c, fun c => ?_⟩
      show iprop(StableHlo.held (c : Thread nD τ) (Pipeline.ucRefs τ sig) (finished m c) ∗ quiet c)
        ⊢ iprop(over m c ∗ ∃ W, owes (c : Thread nD τ) (0 : CellTallies nD τ sig Unit) W)
      unfold quiet over
      iintro ⟨Hh, Hz, HO⟩
      isplitr [HO]
      · isplitl [Hh] <;> iassumption
      · iexact HO)
    (hinit := launches m ρ)
    (QY := fun c s => (s.mem ((c : Thread nD τ).loc main_arg0) = finished m c main_arg0 ∧ s.mem ((c : Thread nD τ).loc main_v2) = finished m c main_v2)
      ∧ s.sem (cell 0 c) = 0)
    (hfin := fun c s' => by
      unfold over; rw [held_three]
      iintro ⟨⟨⟨Hx, -, Hy⟩, Hz⟩, HSI⟩
      icombine HSI Hx gives %hx
      icombine HSI Hy gives %hy
      icombine HSI Hz gives %hz
      imodintro
      isplitr
      · ipureintro
        exact ⟨⟨Buf.eq_of_forall_mem_univ hx, Buf.eq_of_forall_mem_univ hy⟩, by simpa using hz⟩
      iexact HSI)
    (hQ := fun s h hs => ⟨fun c => ⟨(h c).1.1.trans (finished_argument m c), (h c).1.2.trans (finished_result m c)⟩,
      sem_eq_zero hs fun c s hl => by
        obtain rfl := lasting_eq s hl
        exact (h c).2⟩)

end Cert.RowSum

end
-- ==== Proof.KernelValue.lean ====
/-
  What one device returns, in extended reals: at each row, the row's sum of its own block plus the row's sum of its
  mate's block.

  The kernel regards its 1536 rows as 12 groups of 128, adds each row over its 768 lanes, and adds to the 12×128 sums the
  ones its mate sent. The host lays them out as a column of 1536.
-/
module

public import proofs.«01_k».proof.Proof.Run
public import Idealize.ShloMosaic.Lib.Pointwise

@[expose] public section

noncomputable section

namespace Cert.RowSum

open Cert.KernelIdeal Cert.KernelIdeal.Gen
open Idealize.ShloMosaic Idealize.ShloMosaic.TcCoe

/-- The sum of row `r` of a block. -/
def rowSum (x : FVec Ideal S1536x768 .f32) (r : Fin 1536) : Ideal FTy.f32 := ∑ k : Fin 768, x (ix2 r k)

/-- The sums of a block, laid out as a column: at row `r` the sum of the block's row `r`. -/
theorem column_of_sums (x : FVec Ideal S1536x768 .f32) (r : Fin 1536) (z : Fin 1) :
    shapeCast S1536x1 (k0_pay2 (F := Ideal) x) shapeCasts_S12x128_S1536x1 (ix2 r z) = rowSum x r := by
  pointwise [k0_pay2, rowSum]

variable (m : (ℓ : Loc nD τ sig) → Buf (Elt Ideal) ℓ)

/-- What device `c` returns at row `r`: the sum of that row of its block plus the sum of that row of its mate's. -/
theorem result_row (c : Dev nD) (r : Fin 1536) (z : Fin 1) :
    result m c (ix2 r z) = rowSum (block m c) r + rowSum (block m (mate c)) r := by
  rw [← column_of_sums (block m c) r z, ← column_of_sums (block m (mate c)) r z]
  rfl

end Cert.RowSum

end
-- ==== Proof.ReferenceValue.lean ====
/-
  The reference in extended reals: it returns the column of row sums of its argument, at each row the sum of the whole
  array's row, and leaves the argument as it was.
-/
module

public import proofs.«01_k».proof.Proof.Gen.ReferenceIdeal.Run
public import Idealize.ShloMosaic.Lib.Pointwise

@[expose] public section

noncomputable section

namespace Cert.RowSum

open Cert.ReferenceIdeal Cert.ReferenceIdeal.Gen
open Idealize.ShloMosaic Idealize.ShloMosaic.TcCoe Idealize.SL.Sem

/-- The column of row sums of a 3072×1536 array, in the reference's own operations. -/
def rowSums (X : FVec Ideal S3072x1536 .f32) : FVec Ideal S3072x1 .f32 :=
  broadcastInDim S3072x1 ![0] bcast_S3072_S3072x1_0 (Host.reduceAdd X (constant S_ .f32 0x00000000#32) reducesTo_S3072x1536_S3072_d1 h_S_)

/-- At row `r` it is the sum of the 1536 elements of that row. -/
theorem rowSums_row (X : FVec Ideal S3072x1536 .f32) (r : Fin 3072) (z : Fin 1) :
    rowSums X (ix2 r z) = ∑ k : Fin 1536, X (ix2 r k) := by
  pointwise [rowSums]

/-- Every execution of the reference ends with its result at the column of row sums and its argument as it was. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v1) = rowSums (m ((c : Thread nD τ).loc main_arg0))
      ∧ r.2.mem ((c : Thread nD τ).loc main_arg0) = m ((c : Thread nD τ).loc main_arg0) :=
  Cert.ReferenceIdeal.Value.run m ρ

end Cert.RowSum

end
-- ==== Proof.Equation.lean ====
/-
  The equation of the value claim: the column that device `c` returns is its block of the column of row sums.

  Device `c` lies in row `c / 2` and column `c % 2` of the 2×2 mesh, and its mate in the same row and the other column. So
  the two blocks that a device adds are the left half and the right half of the same 1536 rows; a device of the right
  column adds them in the other order, which does not matter to a sum of extended reals.
-/
module

public import proofs.«01_k».proof.Proof.KernelValue
public import Idealize.ShloMosaic.Lib.Pointwise
public import proofs.«01_k».proof.Proof.ReferenceValue

@[expose] public section

noncomputable section

namespace Cert.RowSum

open Cert.KernelIdeal
open Idealize.ShloMosaic Idealize.ShloMosaic.TcCoe

/-- A sum over 1536 columns is the sum over the first 768 plus the sum over the last 768. -/
theorem sum_halves (f : Fin 1536 → EReal) :
    ∑ k : Fin 1536, f k = (∑ k : Fin 768, f ⟨k.val, by omega⟩) + ∑ k : Fin 768, f ⟨768 + k.val, by omega⟩ :=
  Fin.sum_univ_add (a := 768) (b := 768) f

/-- Device `c`'s block of the argument, at row `r` and column `k`. -/
theorem argument_block (X : FVec Ideal ⟨2, ![3072, 1536]⟩ .f32) (c : Dev nD) (r : Fin 1536) (k : Fin 768) :
    Layout.blockN ⟨2, ![1536, 768]⟩ ⟨2, ![3072, 1536]⟩ (Layout.meshBlock [2, 2] ![[0], [1]] c) X (by decide) (ix2 r k)
      = X (ix2 (⟨c.val / 2 % 2 * 1536 + r.val, by omega⟩ : Fin 3072) (⟨c.val % 2 * 768 + k.val, by omega⟩ : Fin 1536)) := by
  refine congrArg X (funext fun a => Fin.ext ?_)
  revert c
  fin_cases a <;> intro c <;> fin_cases c <;> rfl

/-- Device `c`'s block of a column, at row `r`. -/
theorem column_block (Y : FVec Ideal ⟨2, ![3072, 1]⟩ .f32) (c : Dev nD) (r : Fin 1536) (z : Fin 1) :
    Layout.blockN ⟨2, ![1536, 1]⟩ ⟨2, ![3072, 1]⟩ (Layout.meshBlock [2, 2] ![[0], []] c) Y (by decide) (ix2 r z)
      = Y (ix2 (⟨c.val / 2 % 2 * 1536 + r.val, by omega⟩ : Fin 3072) z) := by
  refine congrArg Y (funext fun a => Fin.ext ?_)
  revert c
  fin_cases a <;> intro c <;> fin_cases c <;> first | rfl | (fin_cases z; rfl)

variable (m : (ℓ : Loc nD τ sig) → Buf (Elt Ideal) ℓ)

/-- Where every device's argument is its block of `X`, what every device returns is its block of `X`'s row sums. -/
theorem result_is_block (X : FVec Ideal ⟨2, ![3072, 1536]⟩ .f32)
    (h : ∀ c : Dev nD, block m c = Layout.blockN ⟨2, ![1536, 768]⟩ ⟨2, ![3072, 1536]⟩ (Layout.meshBlock [2, 2] ![[0], [1]] c) X)
    (c : Dev nD) :
    result m c = Layout.blockN ⟨2, ![1536, 1]⟩ ⟨2, ![3072, 1]⟩ (Layout.meshBlock [2, 2] ![[0], []] c) (rowSums X) := by
  funext j
  obtain ⟨r, z, rfl⟩ : ∃ (r : Fin 1536) (z : Fin 1), j = ix2 r z := ⟨j 0, j 1, eq_ix2 j⟩
  rw [result_row, column_block, rowSums_row, sum_halves, h c, h (mate c)]
  simp only [rowSum, argument_block]
  rcases Nat.mod_two_eq_zero_or_one c.val with e | e
  · refine congrArg₂ (· + ·) (Finset.sum_congr rfl fun k _ => ?_) (Finset.sum_congr rfl fun k _ => ?_) <;>
      refine congrArg₂ (fun a b => X (ix2 a b)) (Fin.ext ?_) (Fin.ext ?_) <;> simp only [mate] <;> omega
  · rw [add_comm]
    refine congrArg₂ (· + ·) (Finset.sum_congr rfl fun k _ => ?_) (Finset.sum_congr rfl fun k _ => ?_) <;>
      refine congrArg₂ (fun a b => X (ix2 a b)) (Fin.ext ?_) (Fin.ext ?_) <;> simp only [mate] <;> omega

end Cert.RowSum

end
-- ==== Proof.lean ====
/-
  The proof of `Cert.Claim`.

  Frames: from any memory with all counters at zero the two-by-two mesh's program ends with its argument as it was and
  every counter at zero (`Cert.RowSum.run_main`, Proof/Run.lean, proved once for any float values), and so does the
  reference. Value: in extended reals every device returns its block of the column of row sums (Proof/Equation.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Equation

@[expose] public section

noncomputable section

namespace Cert.Proof

open Idealize.ShloMosaic Idealize.ShloMosaic.TcCoe Idealize.SL.Sem Cert.RowSum

/-- The kernel and its idealization run the same body at each label. -/
theorem bodies_eq : Cert.Kernel.defs₀ (F := Bits) = Cert.KernelIdeal.defs₀ := by
  unfold Cert.Kernel.defs₀ Cert.KernelIdeal.defs₀
  refine congrArg Defs.onTc (funext fun l => funext fun a => ?_)
  match l, a with
  | 0, (t, s) => rfl

/-- The kernel and its idealization have the same body table, the pipeline's labels included. -/
theorem tables_eq : Cert.Kernel.defs (F := Bits) = Cert.KernelIdeal.defs :=
  congrArg (Pipeline.defs (Cert.Kernel.pcfgs (F := Bits))) bodies_eq

/-- The kernel, in floats: the argument is kept and every counter ends at zero. The program is its idealization's text,
    so the run that holds for any float values is read here at the floats. -/
theorem frame_kernel : Cert.quiescent_Kernel := fun m ρ _ => by
  rw [tables_eq]
  exact (θ_run Cert.KernelIdeal.defs _ _).mono (fun _ h => ⟨fun c => (h.1 c).1, h.2⟩) (run_main (F := Bits) m ρ)

/-- The kernel, in extended reals: the argument is kept and every counter ends at zero. -/
theorem frame_ideal : Cert.quiescent_KernelIdeal := fun m ρ _ =>
  (θ_run Cert.KernelIdeal.defs _ _).mono (fun _ h => ⟨fun c => (h.1 c).1, h.2⟩) (run_main (F := Ideal) m ρ)

/-- The reference keeps its argument; it declares no counter. -/
theorem frame_reference : Cert.quiescent_ReferenceIdeal := fun m ρ _ =>
  (θ_run Cert.ReferenceIdeal.defs _ _).mono (fun r h => ⟨fun c => (h c).2, sem_eq_zero_of_no_sems (by decide) r.2⟩) (run_reference m ρ)

/-- In extended reals, where every device's argument is its block of the reference's argument, every device returns its
    block of the reference's result. -/
theorem value : Cert.algebraic_KernelIdeal_ReferenceIdeal := fun m ρ m' ρ' _ h =>
  ⟨rowSums (m' (((0 : Dev Cert.ReferenceIdeal.nD) : Thread Cert.ReferenceIdeal.nD Cert.ReferenceIdeal.τ).loc Cert.ReferenceIdeal.main_arg0)),
    (θ_run Cert.KernelIdeal.defs _ _).mono (fun _ hr c => ⟨(hr.1 c).2.trans (result_is_block m _ h c), (hr.1 c).1⟩)
      (run_main (F := Ideal) m ρ),
    (θ_run Cert.ReferenceIdeal.defs _ _).mono (fun _ hr => hr 0) (run_reference m' ρ')⟩

theorem claim : Cert.Claim :=
  ⟨Cert.Kernel.Gen.facts, Cert.KernelIdeal.Gen.facts, Cert.ReferenceIdeal.Gen.facts,
    frame_kernel, frame_ideal, frame_reference, trivial, value⟩

end Cert.Proof

end
